-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "gelu_cubic" .bf16 0x3D37#16 ((12003091 / 268435456 : ℝ) : EReal)
  ∧ IdealRules.named_const.Statement Cert.KernelIdeal.κ "gelu_scale" .bf16 0x3F4C#16 ((6693141 / 8388608 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x4096 : Shape := ⟨3, ![4, 4096, 4096]⟩
abbrev S4096x4096 : Shape := ⟨2, ![4096, 4096]⟩
abbrev S4096 : Shape := ⟨1, ![4096]⟩
abbrev S4096x64 : Shape := ⟨2, ![4096, 64]⟩
abbrev S64 : Shape := ⟨1, ![64]⟩
abbrev S16384x4096 : Shape := ⟨2, ![16384, 4096]⟩
abbrev S1x4096 : Shape := ⟨2, ![1, 4096]⟩
abbrev S1x64 : Shape := ⟨2, ![1, 64]⟩
abbrev S16384x64 : Shape := ⟨2, ![16384, 64]⟩
abbrev S1x1 : Shape := ⟨2, ![1, 1]⟩
abbrev S512x4096 : Shape := ⟨2, ![512, 4096]⟩
abbrev S512x64 : Shape := ⟨2, ![512, 64]⟩
abbrev S4096x1024 : Shape := ⟨2, ![4096, 1024]⟩
abbrev S512x1024 : Shape := ⟨2, ![512, 1024]⟩
abbrev S1x1024 : Shape := ⟨2, ![1, 1024]⟩
abbrev S1024x64 : Shape := ⟨2, ![1024, 64]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1x1x64 : Shape := ⟨3, ![1, 1, 64]⟩

abbrev nBuf : Space → Nat
  | .hbm => 14
  | .vmem => 15
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096x64, .f32⟩
  | .hbm, ⟨4, _⟩ => ⟨S64, .f32⟩
  | .hbm, ⟨5, _⟩ => ⟨S16384x4096, .f32⟩
  | .hbm, ⟨6, _⟩ => ⟨S4096x4096, .bf16⟩
  | .hbm, ⟨7, _⟩ => ⟨S4096x64, .bf16⟩
  | .hbm, ⟨8, _⟩ => ⟨S1x4096, .f32⟩
  | .hbm, ⟨9, _⟩ => ⟨S1x64, .f32⟩
  | .hbm, ⟨10, _⟩ => ⟨S16384x64, .f32⟩
  | .hbm, ⟨11, _⟩ => ⟨S16384x64, .f32⟩
  | .hbm, ⟨12, _⟩ => ⟨S1x1, .f32⟩
  | .hbm, ⟨13, _⟩ => ⟨S1x1, .f32⟩
  | .local _ .vmem, ⟨0, _⟩ => ⟨S512x4096, .f32⟩
  | .local _ .vmem, ⟨1, _⟩ => ⟨S512x4096, .f32⟩
  | .local _ .vmem, ⟨2, _⟩ => ⟨S4096x4096, .bf16⟩
  | .local _ .vmem, ⟨3, _⟩ => ⟨S1x4096, .f32⟩
  | .local _ .vmem, ⟨4, _⟩ => ⟨S4096x64, .bf16⟩
  | .local _ .vmem, ⟨5, _⟩ => ⟨S1x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S1x64, .f32⟩
  | .local _ .vmem, ⟨14, _⟩ => ⟨S1x64, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c31_i32 : BitVec 32 := 31#32
  let v146 : BitVec 1 := Scalar.cmpi .eq arg0 c31_i32
  let v147 : BitVec 32 := Scalar.extui v146
  let c0_i32_63 : BitVec 32 := 0#32
  let v148 : BitVec 1 := Scalar.cmpi .ne v147 c0_i32_63
  v148

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "gelu_cubic" => some ((12003091 / 268435456 : ℝ) : EReal)
  | "gelu_scale" => some ((6693141 / 8388608 : ℝ) : EReal)
  | _ => none
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S4096x64 : Shape := ⟨2, ![4096, 64]⟩
abbrev S64 : Shape := ⟨1, ![64]⟩
abbrev S1x1x4096 : Shape := ⟨3, ![1, 1, 4096]⟩
abbrev S_ : Shape := ⟨0, ![]⟩
abbrev S4x4096x64 : Shape := ⟨3, ![4, 4096, 64]⟩
abbrev S1x1x64 : Shape := ⟨3, ![1, 1, 64]⟩
abbrev S4x4096 : Shape := ⟨2, ![4, 4096]⟩
abbrev S4x4096x1 : Shape := ⟨3, ![4, 4096, 1]⟩
abbrev S16384x64 : Shape := ⟨2, ![16384, 64]⟩
abbrev S1x1 : Shape := ⟨2, ![1, 1]⟩

abbrev nBuf : Space → Nat
  | .hbm => 110
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096x64, .f32⟩
  | .hbm, ⟨4, _⟩ => ⟨S64, .f32⟩
  | .hbm, ⟨5, _⟩ => ⟨S4x4096x4096, .f32⟩
  | .hbm, ⟨6, _⟩ => ⟨S1x1x4096, .f32⟩
  | .hbm, ⟨7, _⟩ => ⟨S4x4096x4096, .f32⟩
  | .hbm, ⟨8, _⟩ => ⟨S4x4096x4096, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S_, .f32⟩
  | .hbm, ⟨16, _⟩ => ⟨S4x4096x4096, .f32⟩
  | .hbm, ⟨17, _⟩ => ⟨S4x4096x4096, .f32⟩
  | .hbm, ⟨18, _⟩ => ⟨S4x4096x4096, .f32⟩
  | .hbm, ⟨19, _⟩ => ⟨S_, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S4x4096x64, .f32⟩
  | .hbm, ⟨27, _⟩ => ⟨S1x1x64, .f32⟩
  | .hbm, ⟨28, _⟩ => ⟨S4x4096x64, .f32⟩
  | .hbm, ⟨29, _⟩ => ⟨S4x4096x64, .f32⟩
  | .hbm, ⟨30, _⟩ => ⟨S4x4096x64, .f32⟩
  | .hbm, ⟨31, _⟩ => ⟨S4x4096x64, .f32⟩
  | .hbm, ⟨32, _⟩ => ⟨S_, .f32⟩
  | .hbm, ⟨33, _⟩ => ⟨S4x4096x64, .f32⟩
  | .hbm, ⟨34, _⟩ => ⟨S4x4096x64, .f32⟩
  | .hbm, ⟨35, _⟩ => ⟨S_, .f32⟩
  | .hbm, ⟨36, _⟩ => ⟨S4x4096x64, .f32⟩
  | .hbm, ⟨37, _⟩ => ⟨S4x4096x64, .f32⟩
  | .hbm, ⟨38, _⟩ => ⟨S_, .f32⟩
  | .hbm, ⟨39, _⟩ => ⟨S4x4096, .f32⟩
  | .hbm, ⟨40, _⟩ => ⟨S_, .f32⟩
  | .hbm, ⟨41, _⟩ => ⟨S4x4096, .f32⟩
  | .hbm, ⟨42, _⟩ => ⟨S4x4096, .f32⟩
  | .hbm, ⟨43, _⟩ => ⟨S4x4096x1, .f32⟩
  | .hbm, ⟨44, _⟩ => ⟨S4x4096x64, .f32⟩
  | .hbm, ⟨45, _⟩ => ⟨S4x4096x64, .f32⟩
  | .hbm, ⟨46, _⟩ => ⟨S4x4096x64, .f32⟩
  | .hbm, ⟨47, _⟩ => ⟨S_, .f32⟩
  | .hbm, ⟨48, _⟩ => ⟨S4x4096, .f32⟩
  | .hbm, ⟨49, _⟩ => ⟨S4x4096x1, .f32⟩
  | .hbm, ⟨50, _⟩ => ⟨S4x4096x64, .f32⟩
  | .hbm, ⟨51, _⟩ => ⟨S4x4096x64, .f32⟩
  | .hbm, ⟨52, _⟩ => ⟨S_, .f32⟩
  | .hbm, ⟨53, _⟩ => ⟨S4x4096x64, .f32⟩
  | .hbm, ⟨54, _⟩ => ⟨S4x4096x64, .f32⟩
  | .hbm, ⟨55, _⟩ => ⟨S4x4096x64, .f32⟩
  | .hbm, ⟨56, _⟩ => ⟨S4x4096x64, .f32⟩
  | .hbm, ⟨57, _⟩ => ⟨S_, .f32⟩
  | .hbm, ⟨58, _⟩ => ⟨S4x4096, .f32⟩
  | .hbm, ⟨59, _⟩ => ⟨S4x4096, .f32⟩
  | .hbm, ⟨60, _⟩ => ⟨S_, .f32⟩
  | .hbm, ⟨61, _⟩ => ⟨S_, .f32⟩
  | .hbm, ⟨62, _⟩ => ⟨S4x4096, .f32⟩
  | .hbm, ⟨63, _⟩ => ⟨S4x4096, .f32⟩
  | .hbm, ⟨64, _⟩ => ⟨S4x4096, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S_, .i32⟩
  | .hbm, ⟨75, _⟩ => ⟨S_, .f32⟩
  | .hbm, ⟨76, _⟩ => ⟨S64, .f32⟩
  | .hbm, ⟨77, _⟩ => ⟨S1x1x64, .f32⟩
  | .hbm, ⟨78, _⟩ => ⟨S_, .f32⟩
  | .hbm, ⟨79, _⟩ => ⟨S1x1x64, .f32⟩
  | .hbm, ⟨80, _⟩ => ⟨S1x1x64, .f32⟩
  | .hbm, ⟨81, _⟩ => ⟨S4x4096x64, .f32⟩
  | .hbm, ⟨82, _⟩ => ⟨S4x4096x64, .f32⟩
  | .hbm, ⟨83, _⟩ => ⟨S4x4096x64, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S64, .f32⟩
  | .hbm, ⟨89, _⟩ => ⟨S64, .f32⟩
  | .hbm, ⟨90, _⟩ => ⟨S64, .f32⟩
  | .hbm, ⟨91, _⟩ => ⟨S_, .f32⟩
  | .hbm, ⟨92, _⟩ => ⟨S_, .i1⟩
  | .hbm, ⟨93, _⟩ => ⟨S_, .f32⟩
  | .hbm, ⟨94, _⟩ => ⟨S_, .f32⟩
  | .hbm, ⟨95, _⟩ => ⟨S64, .f32⟩
  | .hbm, ⟨96, _⟩ => ⟨S64, .f32⟩
  | .hbm, ⟨97, _⟩ => ⟨S64, .f32⟩
  | .hbm, ⟨98, _⟩ => ⟨S_, .f32⟩
  | .hbm, ⟨99, _⟩ => ⟨S64, .f32⟩
  | .hbm, ⟨100, _⟩ => ⟨S64, .f32⟩
  | .hbm, ⟨101, _⟩ => ⟨S64, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S16384x64, .f32⟩
  | .hbm, ⟨107, _⟩ => ⟨S16384x64, .f32⟩
  | .hbm, ⟨108, _⟩ => ⟨S1x1, .f32⟩
  | .hbm, ⟨109, _⟩ => ⟨S1x1, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_11 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_cst_13 : Ref sig .tc := ⟨.hbm, 69, rfl⟩
abbrev main_v50 : Ref sig .tc := ⟨.hbm, 70, rfl⟩
abbrev main_cst_14 : Ref sig .tc := ⟨.hbm, 71, rfl⟩
abbrev main_v51 : Ref sig .tc := ⟨.hbm, 72, rfl⟩
abbrev main_v52 : Ref sig .tc := ⟨.hbm, 73, rfl⟩
abbrev main_c : Ref sig .tc := ⟨.hbm, 74, rfl⟩
abbrev main_call0_call0_cst : Ref sig .tc := ⟨.hbm, 75, rfl⟩
abbrev main_call0_call0_v0 : Ref sig .tc := ⟨.hbm, 76, rfl⟩
abbrev main_call0_call0_v1 : Ref sig .tc := ⟨.hbm, 77, rfl⟩
abbrev main_call0_call0_cst_0 : Ref sig .tc := ⟨.hbm, 78, rfl⟩
abbrev main_call0_call0_v2 : Ref sig .tc := ⟨.hbm, 79, rfl⟩
abbrev main_call0_call0_v3 : Ref sig .tc := ⟨.hbm, 80, rfl⟩
abbrev main_call0_call0_v4 : Ref sig .tc := ⟨.hbm, 81, rfl⟩
abbrev main_call0_call0_v5 : Ref sig .tc := ⟨.hbm, 82, rfl⟩
abbrev main_call0_call0_v6 : Ref sig .tc := ⟨.hbm, 83, rfl⟩
abbrev main_call0_call0_v7 : Ref sig .tc := ⟨.hbm, 84, rfl⟩
abbrev main_call0_call0_cst_1 : Ref sig .tc := ⟨.hbm, 85, rfl⟩
abbrev main_call0_call0_v8 : Ref sig .tc := ⟨.hbm, 86, rfl⟩
abbrev main_call0_call0_cst_2 : Ref sig .tc := ⟨.hbm, 87, rfl⟩
abbrev main_call0_call0_v9 : Ref sig .tc := ⟨.hbm, 88, rfl⟩
abbrev main_call0_call0_v10 : Ref sig .tc := ⟨.hbm, 89, rfl⟩
abbrev main_call0_call0_v11 : Ref sig .tc := ⟨.hbm, 90, rfl⟩
abbrev main_call0_call0_cst_3 : Ref sig .tc := ⟨.hbm, 91, rfl⟩
abbrev main_call0_call0_v12 : Ref sig .tc := ⟨.hbm, 92, rfl⟩
abbrev main_call0_call0_cst_4 : Ref sig .tc := ⟨.hbm, 93, rfl⟩
abbrev main_call0_call0_call0_v0 : Ref sig .tc := ⟨.hbm, 94, rfl⟩
abbrev main_call0_call0_call0_v1 : Ref sig .tc := ⟨.hbm, 95, rfl⟩
abbrev main_call0_v0 : Ref sig .tc := ⟨.hbm, 96, rfl⟩
abbrev main_v53 : Ref sig .tc := ⟨.hbm, 97, rfl⟩
abbrev main_cst_15 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_cst_16 : Ref sig .tc := ⟨.hbm, 102, rfl⟩
abbrev main_v57 : Ref sig .tc := ⟨.hbm, 103, rfl⟩
abbrev main_cst_17 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩

abbrev nD : Nat := 1
abbrev τ : Topo := Topo.v7x

variable {F : FTy → Type} [FloatOps F]
-- ==== Proof.Spec.lean ====
/- The gate's mathematics over the extended reals, index by index, as both programs compute it: the logits, the
   weights, one row's squared entropy difference, and the two losses. -/
module

public import Idealize.ShloMosaic.PureOps.Ideal

@[expose] public section

noncomputable section

namespace Cert.Spec

open Idealize.ShloMosaic

/-- The tanh form of the gelu at one entry, its constants the words that the reference prints. -/
def gelu (z : EReal) : EReal :=
  z * (Ideal.ofBits .f32 0x3F000000#32 * (1 + Ideal.tanh (Ideal.ofBits .f32 0x3F4C422A#32
    * (z + Ideal.ofBits .f32 0x3D372713#32 * (z * z * z)))))

/-- The hidden layer before the gelu, for one row `u` of the states: entry `k`. -/
def hid (u : Fin 4096 → EReal) (W1 : Fin 4096 → Fin 4096 → EReal) (b1 : Fin 4096 → EReal) (k : Fin 4096) : EReal :=
  (∑ h, u h * W1 h k) + b1 k

/-- The logits of one row `u` of the states: gate `g`. -/
def logit (u : Fin 4096 → EReal) (W1 : Fin 4096 → Fin 4096 → EReal) (b1 : Fin 4096 → EReal)
    (W2 : Fin 4096 → Fin 64 → EReal) (b2 : Fin 64 → EReal) (g : Fin 64) : EReal :=
  (∑ k, gelu (hid u W1 b1 k) * W2 k g) + b2 g

/-- The largest of one row's logits. -/
def rowMax (l : Fin 64 → EReal) : EReal := Finset.univ.fold max ⊥ l

/-- The softmax of one row's logits at gate `g`. -/
def prob (l : Fin 64 → EReal) (g : Fin 64) : EReal :=
  Ideal.div (Ideal.exp (l g - rowMax l)) (∑ g', Ideal.exp (l g' - rowMax l))

/-- One row's entropy less the entropy of the even distribution. -/
def entDiff (l : Fin 64 → EReal) : EReal :=
  -(∑ g, prob l g * Ideal.log (prob l g + Ideal.ofBits .f32 0x3089705F#32)) - Ideal.log (Ideal.ofBits .f32 0x42800000#32)

/-- The square of `entDiff`: what the entropy loss averages over the rows. -/
def entSq (l : Fin 64 → EReal) : EReal := entDiff l * entDiff l

/-- The entropy loss of the logits of all rows. -/
def entLoss (L : Fin 16384 → Fin 64 → EReal) : EReal :=
  Ideal.div (∑ r, entSq (L r)) (Ideal.ofBits .f32 0x46800000#32)

/-- A gate's mean weight. -/
def mean (w : Fin 16384 → Fin 64 → EReal) (g : Fin 64) : EReal :=
  Ideal.div (∑ r, w r g) (Ideal.ofBits .f32 0x46800000#32)

/-- A gate's variance as the reference takes it: the mean of the squared differences from the mean. -/
def varDiff (w : Fin 16384 → Fin 64 → EReal) (g : Fin 64) : EReal :=
  Ideal.div (∑ r, (w r g - mean w g) * (w r g - mean w g)) (Ideal.ofBits .f32 0x46800000#32)

/-- A gate's variance as the kernel takes it: the mean of the squares less the squared mean, or zero if that is less. -/
def varSq (w : Fin 16384 → Fin 64 → EReal) (g : Fin 64) : EReal :=
  max (Ideal.div (∑ r, w r g * w r g) (Ideal.ofBits .f32 0x46800000#32) - mean w g * mean w g) 0

/-- The loss of the coefficients of variation, from the gates' variances `v`. -/
def cvLoss (w : Fin 16384 → Fin 64 → EReal) (v : Fin 64 → EReal) : EReal :=
  Ideal.div (∑ g, Ideal.div (Ideal.sqrt (v g)) (mean w g + Ideal.ofBits .f32 0x3089705F#32))
    (Ideal.ofBits .f32 0x42800000#32)

end Cert.Spec

end
-- ==== Proof.Consts.lean ====
/- The float constants of the two programs, as the extended reals that their words hold. -/
module

public import Idealize.ShloMosaic.PureOps.Ideal

@[expose] public section

noncomputable section

namespace Cert.Consts

open Idealize.ShloMosaic

/-- `-∞`, where a running maximum starts. -/
theorem ofBits_bot : Ideal.ofBits .f32 0xFF800000#32 = ⊥ := by
  simp [Ideal.ofBits, Ideal.ieee]

/-- `16384.0`, the number of rows. -/
theorem ofBits_rows : Ideal.ofBits .f32 0x46800000#32 = ((16384 : ℝ) : EReal) := by
  simp [Ideal.ofBits, Ideal.ieee, -EReal.coe_mul]; norm_num

/-- `1/2`, in the kernel's bf16. -/
theorem ofBits_half_bf16 : Ideal.ofBits .bf16 0x3F00#16 = ((1 / 2 : ℝ) : EReal) := by
  simp [Ideal.ofBits, Ideal.ieee, -EReal.coe_mul]; norm_num

/-- `1/2`, in the reference's float32. -/
theorem ofBits_half_f32 : Ideal.ofBits .f32 0x3F000000#32 = ((1 / 2 : ℝ) : EReal) := by
  simp [Ideal.ofBits, Ideal.ieee, -EReal.coe_mul]; norm_num

/-- The gelu's cubic factor, as the reference's float32 holds it. -/
theorem ofBits_cubic : Ideal.ofBits .f32 0x3D372713#32 = ((12003091 / 268435456 : ℝ) : EReal) := by
  simp [Ideal.ofBits, Ideal.ieee, -EReal.coe_mul]; norm_num

/-- The gelu's scale, as the reference's float32 holds it. -/
theorem ofBits_scale : Ideal.ofBits .f32 0x3F4C422A#32 = ((6693141 / 8388608 : ℝ) : EReal) := by
  simp [Ideal.ofBits, Ideal.ieee, -EReal.coe_mul]; norm_num

end Cert.Consts

end
-- ==== Proof.Block.lean ====
/- One grid point's vectors of the kernel, as functions of the five blocks it loads, read at an entry. -/
module

public import proofs.«01_k».proof.Proof.Gen.KernelIdeal.Value
public import proofs.«01_k».proof.Proof.Spec
public import proofs.«01_k».proof.Proof.Consts
public import Idealize.ShloMosaic.Lib.Pipeline.ValueKit
public import Idealize.ShloMosaic.Lib.Pointwise
public import Idealize.ShloMosaic.Lib.Tactic

@[expose] public section

set_option maxRecDepth 16384

noncomputable section

namespace Cert.Block

open Cert.KernelIdeal Cert.KernelIdeal.Gen
open Idealize.ShloMosaic Idealize.ShloMosaic.TcCoe Idealize.SL.Sem

/-- The kernel's gelu at an entry, its two constants the named ones, is the specification's. -/
theorem gelu_eq (z : EReal) :
    z * (Ideal.ofBits .bf16 0x3F00#16 * (1 + Ideal.tanh (Named.named (F := Ideal) κ "gelu_scale" (φ := .bf16) 0x3F4C#16
      * (z + Named.named (F := Ideal) κ "gelu_cubic" (φ := .bf16) 0x3D37#16 * (z * (z * z)))))) = Cert.Spec.gelu z := by
  have hc : (Named.named (F := Ideal) κ "gelu_cubic" (φ := .bf16) 0x3D37#16 : EReal) = ((12003091 / 268435456 : ℝ) : EReal) := rfl
  have hs : (Named.named (F := Ideal) κ "gelu_scale" (φ := .bf16) 0x3F4C#16 : EReal) = ((6693141 / 8388608 : ℝ) : EReal) := rfl
  unfold Cert.Spec.gelu
  rw [Cert.Consts.ofBits_half_bf16, Cert.Consts.ofBits_half_f32, Cert.Consts.ofBits_scale, Cert.Consts.ofBits_cubic,
    mul_comm (z * z) z, hc, hs]

/-- One quarter of the hidden layer's contribution to the logits of row `r`: the gelu of 1024 hidden entries against
    their rows of the second weight matrix. -/
def part (x : Vec Ideal S512x4096 .f32) (w : Vec Ideal S4096x1024 .bf16) (b : Vec Ideal S1x1024 .f32)
    (v : Vec Ideal S1024x64 .bf16) (r : Fin 512) (g : Fin 64) : EReal :=
  ∑ k : Fin 1024, Cert.Spec.gelu ((∑ h : Fin 4096, x (ix2 r h) * w (ix2 h k)) + b (ix2 0 k)) * v (ix2 k g)

/-- The first quarter. -/
theorem pay11_apply (x : Vec Ideal S512x4096 .f32) (w : Vec Ideal S4096x1024 .bf16) (b : Vec Ideal S1x1024 .f32)
    (v : Vec Ideal S1024x64 .bf16) (r : Fin 512) (g : Fin 64) :
    k0_pay11 x w b v (ix2 r g) = part x w b v r g := by
  pointwise [k0_pay11, k0_pay10, part]
  simp only [gelu_eq]

/-- The second and the third quarter, added to what came before. -/
theorem pay14_apply (x : FVec Ideal S512x4096 .f32) (p : FVec Ideal S512x64 .f32)
    (w : Vec Ideal S4096x1024 .bf16) (b : Vec Ideal S1x1024 .f32) (v : Vec Ideal S1024x64 .bf16)
    (w' : Vec Ideal S4096x1024 .bf16) (b' : Vec Ideal S1x1024 .f32) (v' : Vec Ideal S1024x64 .bf16)
    (r : Fin 512) (g : Fin 64) :
    k0_pay14 (F := Ideal) (k0_pay10 x) p (k0_pay12 x w b) (k0_pay13 x w b) v w' b' v' (ix2 r g)
      = p (ix2 r g) + part x w b v r g + part x w' b' v' r g := by
  pointwise [k0_pay14, k0_pay13, k0_pay12, k0_pay10, part]
  simp only [gelu_eq]

/-- The last quarter and the second bias, added to what came before. -/
theorem pay16_apply (x : FVec Ideal S512x4096 .f32) (p : FVec Ideal S512x64 .f32)
    (w : Vec Ideal S4096x1024 .bf16) (b : Vec Ideal S1x1024 .f32) (v : Vec Ideal S1024x64 .bf16)
    (b2 : Vec Ideal S1x64 .f32) (r : Fin 512) (g : Fin 64) :
    k0_pay16 (F := Ideal) (k0_pay10 x) p (k0_pay15 w) b v b2 (ix2 r g)
      = p (ix2 r g) + part x w b v r g + b2 (ix2 0 g) := by
  pointwise [k0_pay16, k0_pay15, k0_pay10, part]
  simp only [gelu_eq]

section rows

variable (x : FVec Ideal S512x4096 .bf16) (p : FVec Ideal S512x64 .f32) (w : FVec Ideal S4096x1024 .bf16)
  (b : Vec Ideal S1x1024 .f32) (v : Vec Ideal S1024x64 .bf16) (b2 : Vec Ideal S1x64 .f32)

/-- The weights are the logistic function of the logits. -/
theorem pay17_apply (r : Fin 512) (g : Fin 64) :
    k0_pay17 x p w b v b2 (ix2 r g) = Ideal.logistic (k0_pay16 x p w b v b2 (ix2 r g)) := by
  pointwise [k0_pay17, Ideal.logistic]

/-- The column sums of the weights. -/
theorem pay18_apply (g : Fin 64) :
    k0_pay18 x p w b v b2 (ix2 0 g) = ∑ r : Fin 512, k0_pay17 x p w b v b2 (ix2 r g) := by
  pointwise [k0_pay18]

/-- The column sums of the squared weights. -/
theorem pay19_apply (g : Fin 64) :
    k0_pay19 x p w b v b2 (ix2 0 g) = ∑ r : Fin 512, k0_pay17 x p w b v b2 (ix2 r g) * k0_pay17 x p w b v b2 (ix2 r g) := by
  pointwise [k0_pay19]

/-- The logits less their row's largest. -/
theorem pay20_apply (r : Fin 512) (g : Fin 64) :
    k0_pay20 x p w b v b2 (ix2 r g)
      = k0_pay16 x p w b v b2 (ix2 r g) - Cert.Spec.rowMax (fun g => k0_pay16 x p w b v b2 (ix2 r g)) := by
  pointwise [k0_pay20, Cert.Spec.rowMax]
  rw [Cert.Consts.ofBits_bot]

/-- The sum of the rows' squared entropy differences, from the logits less their row's largest. -/
theorem pay1_apply (d : FVec Ideal S512x64 .f32) (l : Fin 512 → Fin 64 → EReal)
    (hd : ∀ r g, d (ix2 r g) = l r g - Cert.Spec.rowMax (l r)) (i : S1x1.Idx) :
    k0_pay1 d i = ∑ r : Fin 512, Cert.Spec.entSq (l r) := by
  pointwise [k0_pay1, Cert.Spec.entSq, Cert.Spec.entDiff, Cert.Spec.prob, hd]
  simp only [zero_sub, Fin.sum_univ_one]
  rfl

/-- The loss of the coefficients of variation, from the sums `s` of the weights and `q` of their squares. -/
theorem pay9_apply (s q : Vec Ideal S1x64 .f32) (i : S1x1.Idx) :
    k0_pay9 s q i
      = Ideal.div (∑ g, Ideal.div
          (Ideal.sqrt (max (Ideal.div (q (ix2 0 g)) (Ideal.ofBits .f32 0x46800000#32)
            - Ideal.div (s (ix2 0 g)) (Ideal.ofBits .f32 0x46800000#32) * Ideal.div (s (ix2 0 g)) (Ideal.ofBits .f32 0x46800000#32)) 0))
          (Ideal.div (s (ix2 0 g)) (Ideal.ofBits .f32 0x46800000#32) + Ideal.ofBits .f32 0x3089705F#32))
        (Ideal.ofBits .f32 0x42800000#32) := by
  pointwise [k0_pay9]
  simp only [Fin.sum_univ_one]

end rows

/-- A sum over 4096 is the sum of the sums over its four quarters. -/
theorem sum_quarters (f : Fin 4096 → EReal) :
    (∑ k : Fin 1024, f ⟨k.val, by omega⟩) + (∑ k : Fin 1024, f ⟨1024 + k.val, by omega⟩)
      + (∑ k : Fin 1024, f ⟨2048 + k.val, by omega⟩) + (∑ k : Fin 1024, f ⟨3072 + k.val, by omega⟩) = ∑ k, f k := by
  rw [Fin.sum_univ_two_halves 3072 1024 rfl f, Fin.sum_univ_two_halves 2048 1024 rfl (fun k : Fin 3072 => f ⟨k.val, by omega⟩),
    Fin.sum_univ_two_halves 1024 1024 rfl (fun k : Fin 2048 => f ⟨k.val, by omega⟩)]

/-- The logits of one block of 512 rows, from the blocks that the kernel loads. -/
def logits (x : FVec Ideal S512x4096 .f32) (w1 : FVec Ideal S4096x4096 .bf16) (b1 : FVec Ideal S1x4096 .f32)
    (w2 : FVec Ideal S4096x64 .bf16) (b2 : FVec Ideal S1x64 .f32) : FVec Ideal S512x64 .f32 :=
  k0_pay16 (k0_pay10 x)
    (k0_pay14 (k0_pay10 x)
      (k0_pay11 x
        (View.ld (Val := Elt Ideal) w1 (Rect.unit (s := S4096x4096) ![0, 0] ![4096, 1024] inb_S4096x4096_S4096x1024_0_0))
        (View.ld (Val := Elt Ideal) b1 (Rect.unit (s := S1x4096) ![0, 0] ![1, 1024] inb_S1x4096_S1x1024_0_0))
        (View.ld (Val := Elt Ideal) w2 (Rect.unit (s := S4096x64) ![0, 0] ![1024, 64] inb_S4096x64_S1024x64_0_0)))
      (k0_pay12 x
        (View.ld (Val := Elt Ideal) w1 (Rect.unit (s := S4096x4096) ![0, 1024] ![4096, 1024] inb_S4096x4096_S4096x1024_0_1024))
        (View.ld (Val := Elt Ideal) b1 (Rect.unit (s := S1x4096) ![0, 1024] ![1, 1024] inb_S1x4096_S1x1024_0_1024)))
      (k0_pay13 x
        (View.ld (Val := Elt Ideal) w1 (Rect.unit (s := S4096x4096) ![0, 1024] ![4096, 1024] inb_S4096x4096_S4096x1024_0_1024))
        (View.ld (Val := Elt Ideal) b1 (Rect.unit (s := S1x4096) ![0, 1024] ![1, 1024] inb_S1x4096_S1x1024_0_1024)))
      (View.ld (Val := Elt Ideal) w2 (Rect.unit (s := S4096x64) ![1024, 0] ![1024, 64] inb_S4096x64_S1024x64_1024_0))
      (View.ld (Val := Elt Ideal) w1 (Rect.unit (s := S4096x4096) ![0, 2048] ![4096, 1024] inb_S4096x4096_S4096x1024_0_2048))
      (View.ld (Val := Elt Ideal) b1 (Rect.unit (s := S1x4096) ![0, 2048] ![1, 1024] inb_S1x4096_S1x1024_0_2048))
      (View.ld (Val := Elt Ideal) w2 (Rect.unit (s := S4096x64) ![2048, 0] ![1024, 64] inb_S4096x64_S1024x64_2048_0)))
    (k0_pay15 (View.ld (Val := Elt Ideal) w1 (Rect.unit (s := S4096x4096) ![0, 3072] ![4096, 1024] inb_S4096x4096_S4096x1024_0_3072)))
    (View.ld (Val := Elt Ideal) b1 (Rect.unit (s := S1x4096) ![0, 3072] ![1, 1024] inb_S1x4096_S1x1024_0_3072))
    (View.ld (Val := Elt Ideal) w2 (Rect.unit (s := S4096x64) ![3072, 0] ![1024, 64] inb_S4096x64_S1024x64_3072_0)) b2

/-- The block's logits are the specification's, row by row. -/
theorem logits_apply (x : FVec Ideal S512x4096 .f32) (w1 : FVec Ideal S4096x4096 .bf16) (b1 : FVec Ideal S1x4096 .f32)
    (w2 : FVec Ideal S4096x64 .bf16) (b2 : FVec Ideal S1x64 .f32) (r : Fin 512) (g : Fin 64) :
    logits x w1 b1 w2 b2 (ix2 r g) = Cert.Spec.logit (fun h => x (ix2 r h)) (fun h k => w1 (ix2 h k)) (fun k => b1 (ix2 0 k))
      (fun k g => w2 (ix2 k g)) (fun g => b2 (ix2 0 g)) g := by
  unfold logits Cert.Spec.logit Cert.Spec.hid
  rw [pay16_apply, pay14_apply, pay11_apply, ← sum_quarters]
  pointwise [part]

end Cert.Block

end
-- ==== Proof.Steps.lean ====
/- What one grid point of the kernel leaves in the two blocks it writes, in the three carried sums and, at the last point,
   in the two losses: the carried state's step, each component at an entry. -/
module

public import proofs.«01_k».proof.Proof.Block
public import Idealize.ShloMosaic.Lib.Pipeline.ReadBack

@[expose] public section

set_option maxRecDepth 16384

noncomputable section

namespace Cert.Steps

open Cert.KernelIdeal Cert.KernelIdeal.Gen Cert.KernelIdeal.Value
open Idealize.ShloMosaic Idealize.ShloMosaic.TcCoe Idealize.SL.Sem

variable (m : (ℓ : Loc nD τ sig) → Buf (Elt Ideal) ℓ) (c : Dev nD)

/-- The carried state: the weights' block, the logits' block, the two losses, and the three running sums. -/
abbrev St := Vec Ideal S512x64 .f32 × Vec Ideal S512x64 .f32 × Vec Ideal S1x1 .f32 × Vec Ideal S1x1 .f32 × Vec Ideal S1x1 .f32
  × Vec Ideal S1x64 .f32 × Vec Ideal S1x64 .f32

/-- The logits of the block of rows that point `t` handles. -/
def lg (t : Fin cfg0.N) : FVec Ideal S512x64 .f32 :=
  Cert.Block.logits (iblk m c 0 t) (iblk m c 1 t) (iblk m c 2 t) (iblk m c 3 t) (iblk m c 4 t)

/-- The weight of row `r` of the block and gate `g`. -/
def wt (t : Fin cfg0.N) (r : Fin 512) (g : Fin 64) : EReal := Ideal.logistic (lg m c t (ix2 r g))

/-- The points are the first, those between, and the last. -/
theorem cases (t : Fin cfg0.N) :
    (t.val % 32 = 0 ∧ ¬1 ≤ t.val ∧ ¬t.val % 32 = 31) ∨ (¬t.val % 32 = 0 ∧ 1 ≤ t.val ∧ ¬t.val % 32 = 31)
      ∨ (¬t.val % 32 = 0 ∧ 1 ≤ t.val ∧ t.val % 32 = 31) := by
  have h : t.val < 32 := lt_of_lt_of_eq t.isLt N_0
  omega

/-- The logits' block. -/
theorem step_logits (t : Fin cfg0.N) (acc : St) : (stAt0 m c t.val t.isLt acc).2.1 = lg m c t := by
  rcases cases t with ⟨h0, h1, h2⟩ | ⟨h0, h1, h2⟩ | ⟨h0, h1, h2⟩
  · rw [stAt0_A m c t acc h0 h1 h2]; dsimp only; frame_out; rfl
  · rw [stAt0_B m c t acc h0 h1 h2]; dsimp only; frame_out; rfl
  · rw [stAt0_C m c t acc h0 h1 h2]; dsimp only; frame_out; rfl

/-- The weights' block. -/
theorem step_weights (t : Fin cfg0.N) (acc : St) (r : Fin 512) (g : Fin 64) :
    (stAt0 m c t.val t.isLt acc).1 (ix2 r g) = wt m c t r g := by
  rcases cases t with ⟨h0, h1, h2⟩ | ⟨h0, h1, h2⟩ | ⟨h0, h1, h2⟩
  · rw [stAt0_A m c t acc h0 h1 h2]; dsimp only; frame_out; exact Cert.Block.pay17_apply ..
  · rw [stAt0_B m c t acc h0 h1 h2]; dsimp only; frame_out; exact Cert.Block.pay17_apply ..
  · rw [stAt0_C m c t acc h0 h1 h2]; dsimp only; frame_out; exact Cert.Block.pay17_apply ..

/-- What the point adds to the running sum of squared entropy differences. -/
def dEnt (t : Fin cfg0.N) : EReal := ∑ r : Fin 512, Cert.Spec.entSq (fun g => lg m c t (ix2 r g))
/-- What the point adds to gate `g`'s running sum of weights. -/
def dSw (t : Fin cfg0.N) (g : Fin 64) : EReal := ∑ r : Fin 512, wt m c t r g
/-- What the point adds to gate `g`'s running sum of squared weights. -/
def dSq (t : Fin cfg0.N) (g : Fin 64) : EReal := ∑ r : Fin 512, wt m c t r g * wt m c t r g

/-- The first point starts the sum of squared entropy differences. -/
theorem ent_first (t : Fin cfg0.N) (acc : St) (h : t.val % 32 = 0) (i : S1x1.Idx) :
    (stAt0 m c t.val t.isLt acc).2.2.2.2.1 i = 0 + dEnt m c t := by
  rcases cases t with ⟨h0, h1, h2⟩ | ⟨h0, h1, h2⟩ | ⟨h0, h1, h2⟩
  · rw [stAt0_A m c t acc h0 h1 h2]; dsimp only; frame_out; rw [zero_add]
    unfold k0_pay4
    rw [shapeCast_self]
    exact Cert.Block.pay1_apply _ _ (fun r g => Cert.Block.pay20_apply ..) i
  · exact absurd h h0
  · exact absurd h h0

/-- Every other point adds to it. -/
theorem ent_next (t : Fin cfg0.N) (acc : St) (h : ¬t.val % 32 = 0) (i : S1x1.Idx) :
    (stAt0 m c t.val t.isLt acc).2.2.2.2.1 i = acc.2.2.2.2.1 i + dEnt m c t := by
  rcases cases t with ⟨h0, h1, h2⟩ | ⟨h0, h1, h2⟩ | ⟨h0, h1, h2⟩
  · exact absurd h0 h
  all_goals
    first
    | rw [stAt0_B m c t acc h0 h1 h2]
    | rw [stAt0_C m c t acc h0 h1 h2]
    dsimp only; frame_out
    simp only [read_unread_whole]
    unfold k0_pay7
    rw [shapeCast_self]
    exact congrArg (acc.2.2.2.2.1 i + ·) (Cert.Block.pay1_apply _ _ (fun r g => Cert.Block.pay20_apply ..) i)

/-- The first point starts the sum of weights. -/
theorem sw_first (t : Fin cfg0.N) (acc : St) (h : t.val % 32 = 0) (g : Fin 64) :
    (stAt0 m c t.val t.isLt acc).2.2.2.2.2.1 (ix2 0 g) = 0 + dSw m c t g := by
  rcases cases t with ⟨h0, h1, h2⟩ | ⟨h0, h1, h2⟩ | ⟨h0, h1, h2⟩
  · rw [stAt0_A m c t acc h0 h1 h2]; dsimp only; frame_out; rw [zero_add]
    unfold k0_pay2
    rw [shapeCast_self, Cert.Block.pay18_apply]
    exact Finset.sum_congr rfl fun r _ => Cert.Block.pay17_apply ..
  · exact absurd h h0
  · exact absurd h h0

/-- Every other point adds to it. -/
theorem sw_next (t : Fin cfg0.N) (acc : St) (h : ¬t.val % 32 = 0) (g : Fin 64) :
    (stAt0 m c t.val t.isLt acc).2.2.2.2.2.1 (ix2 0 g) = acc.2.2.2.2.2.1 (ix2 0 g) + dSw m c t g := by
  rcases cases t with ⟨h0, h1, h2⟩ | ⟨h0, h1, h2⟩ | ⟨h0, h1, h2⟩
  · exact absurd h0 h
  all_goals
    first
    | rw [stAt0_B m c t acc h0 h1 h2]
    | rw [stAt0_C m c t acc h0 h1 h2]
    dsimp only; frame_out
    simp only [read_unread_whole]
    unfold k0_pay5
    rw [shapeCast_self]
    refine congrArg (acc.2.2.2.2.2.1 (ix2 0 g) + ·) ?_
    rw [Cert.Block.pay18_apply]
    exact Finset.sum_congr rfl fun r _ => Cert.Block.pay17_apply ..

/-- The first point starts the sum of squared weights. -/
theorem sq_first (t : Fin cfg0.N) (acc : St) (h : t.val % 32 = 0) (g : Fin 64) :
    (stAt0 m c t.val t.isLt acc).2.2.2.2.2.2 (ix2 0 g) = 0 + dSq m c t g := by
  rcases cases t with ⟨h0, h1, h2⟩ | ⟨h0, h1, h2⟩ | ⟨h0, h1, h2⟩
  · rw [stAt0_A m c t acc h0 h1 h2]; dsimp only; frame_out; rw [zero_add]
    unfold k0_pay3
    rw [shapeCast_self, Cert.Block.pay19_apply]
    exact Finset.sum_congr rfl fun r _ => by rw [Cert.Block.pay17_apply]; rfl
  · exact absurd h h0
  · exact absurd h h0

/-- Every other point adds to it. -/
theorem sq_next (t : Fin cfg0.N) (acc : St) (h : ¬t.val % 32 = 0) (g : Fin 64) :
    (stAt0 m c t.val t.isLt acc).2.2.2.2.2.2 (ix2 0 g) = acc.2.2.2.2.2.2 (ix2 0 g) + dSq m c t g := by
  rcases cases t with ⟨h0, h1, h2⟩ | ⟨h0, h1, h2⟩ | ⟨h0, h1, h2⟩
  · exact absurd h0 h
  all_goals
    first
    | rw [stAt0_B m c t acc h0 h1 h2]
    | rw [stAt0_C m c t acc h0 h1 h2]
    dsimp only; frame_out
    simp only [read_unread_whole]
    unfold k0_pay6
    rw [shapeCast_self]
    refine congrArg (acc.2.2.2.2.2.2 (ix2 0 g) + ·) ?_
    rw [Cert.Block.pay19_apply]
    exact Finset.sum_congr rfl fun r _ => by rw [Cert.Block.pay17_apply]; rfl

/-- The last point's entropy loss, from the sum as it leaves it. -/
theorem last_ent (t : Fin cfg0.N) (acc : St) (h : t.val % 32 = 31) (i : S1x1.Idx) :
    (stAt0 m c t.val t.isLt acc).2.2.1 i
      = Ideal.div ((stAt0 m c t.val t.isLt acc).2.2.2.2.1 i) (Ideal.ofBits .f32 0x46800000#32) := by
  rcases cases t with ⟨h0, h1, h2⟩ | ⟨h0, h1, h2⟩ | ⟨h0, h1, h2⟩
  · omega
  · exact absurd h h2
  · rw [stAt0_C m c t acc h0 h1 h2]; dsimp only; frame_out
    pointwise [k0_pay8]

/-- The last point's loss of the coefficients of variation, from the two sums as it leaves them. -/
theorem last_cv (t : Fin cfg0.N) (acc : St) (h : t.val % 32 = 31) :
    (stAt0 m c t.val t.isLt acc).2.2.2.1
      = k0_pay9 (stAt0 m c t.val t.isLt acc).2.2.2.2.2.1 (stAt0 m c t.val t.isLt acc).2.2.2.2.2.2 := by
  rcases cases t with ⟨h0, h1, h2⟩ | ⟨h0, h1, h2⟩ | ⟨h0, h1, h2⟩
  · omega
  · exact absurd h h2
  · rw [stAt0_C m c t acc h0 h1 h2]; dsimp only; frame_out

end Cert.Steps

end
-- ==== Proof.Fold.lean ====
/- The kernel's four results at an entry: the carried state folded over the grid points, and the blocks as entries of the
   launch's arguments. -/
module

public import proofs.«01_k».proof.Proof.Steps
public import Idealize.ShloMosaic.Lib.Claim

@[expose] public section

set_option maxRecDepth 16384

noncomputable section

namespace Cert.Fold

open Cert.KernelIdeal Cert.KernelIdeal.Gen Cert.KernelIdeal.Value Cert.Steps
open Idealize.ShloMosaic Idealize.ShloMosaic.TcCoe Idealize.SL.Sem

variable (m : (ℓ : Loc nD τ sig) → Buf (Elt Ideal) ℓ) (c : Dev nD)

/-- The carried state after point `n`. -/
def st (n : ℕ) (h : n < cfg0.N) : St :=
  Pipeline.accAt (fun n h => stAt0 m c n h junk0) (stAt0 m c) 0 n (by omega)

/-- A step at two spellings of one point. -/
theorem step_congr (a b : ℕ) (e : a = b) (ha : a < cfg0.N) (hb : b < cfg0.N) (acc : St) :
    stAt0 m c a ha acc = stAt0 m c b hb acc := by subst e; rfl

/-- The state after a point that is not the first is the step over the state after the point before. -/
theorem st_next (t : Fin cfg0.N) (h : ¬t.val % 32 = 0) :
    st m c t.val t.isLt = stAt0 m c t.val t.isLt (st m c (t.val - 1) (Nat.lt_of_le_of_lt (Nat.sub_le _ _) t.isLt)) := by
  obtain ⟨n, hn⟩ := t
  cases n with
  | zero => exact absurd rfl h
  | succ n => exact step_congr m c _ _ (Nat.zero_add _) _ _ _

/-- The state after any point is a step there. -/
theorem st_eq (t : Fin cfg0.N) : ∃ acc, st m c t.val t.isLt = stAt0 m c t.val t.isLt acc := by
  obtain ⟨n, hn⟩ := t
  cases n with
  | zero => exact ⟨junk0, rfl⟩
  | succ n => exact ⟨_, step_congr m c _ _ (Nat.zero_add _) _ _ _⟩

/-- The last point. -/
def last : Fin cfg0.N := ⟨31, lt_of_lt_of_eq (by decide) N_0.symm⟩

/-- After the last point the running sum of squared entropy differences holds every point's part. -/
theorem ent_total (i : S1x1.Idx) :
    (st m c last.val last.isLt).2.2.2.2.1 i = 0 + ∑ p : Fin cfg0.N, dEnt m c p :=
  Pipeline.eq_sum_fin_of_reset_step_apply_last (fun n h (i : S1x1.Idx) => (st m c n h).2.2.2.2.1 i) 32 (fun _ => 0)
    (fun t _ => dEnt m c t)
    (fun t h i => by obtain ⟨acc, e⟩ := st_eq m c t; show (st m c t.val t.isLt).2.2.2.2.1 i = _; rw [e]; exact ent_first m c t acc h i)
    (fun t h i => by show (st m c t.val t.isLt).2.2.2.2.1 i = _; rw [st_next m c t h]; exact ent_next m c t _ h i)
    (le_of_eq N_0) last N_0.symm i

/-- After the last point a gate's running sum of weights holds every point's part. -/
theorem sw_total (g : Fin 64) :
    (st m c last.val last.isLt).2.2.2.2.2.1 (ix2 0 g) = 0 + ∑ p : Fin cfg0.N, dSw m c p g :=
  Pipeline.eq_sum_fin_of_reset_step_apply_last (fun n h (g : Fin 64) => (st m c n h).2.2.2.2.2.1 (ix2 0 g)) 32 (fun _ => 0)
    (fun t g => dSw m c t g)
    (fun t h g => by obtain ⟨acc, e⟩ := st_eq m c t; show (st m c t.val t.isLt).2.2.2.2.2.1 _ = _; rw [e]; exact sw_first m c t acc h g)
    (fun t h g => by show (st m c t.val t.isLt).2.2.2.2.2.1 _ = _; rw [st_next m c t h]; exact sw_next m c t _ h g)
    (le_of_eq N_0) last N_0.symm g

/-- After the last point a gate's running sum of squared weights holds every point's part. -/
theorem sq_total (g : Fin 64) :
    (st m c last.val last.isLt).2.2.2.2.2.2 (ix2 0 g) = 0 + ∑ p : Fin cfg0.N, dSq m c p g :=
  Pipeline.eq_sum_fin_of_reset_step_apply_last (fun n h (g : Fin 64) => (st m c n h).2.2.2.2.2.2 (ix2 0 g)) 32 (fun _ => 0)
    (fun t g => dSq m c t g)
    (fun t h g => by obtain ⟨acc, e⟩ := st_eq m c t; show (st m c t.val t.isLt).2.2.2.2.2.2 _ = _; rw [e]; exact sq_first m c t acc h g)
    (fun t h g => by show (st m c t.val t.isLt).2.2.2.2.2.2 _ = _; rw [st_next m c t h]; exact sq_next m c t _ h g)
    (le_of_eq N_0) last N_0.symm g

/-- The point that handles row `r`. -/
def pt (r : Fin 16384) : Fin cfg0.N := ⟨r.val / 512, lt_of_lt_of_eq (by omega) N_0.symm⟩
/-- Row `r`'s place in its block. -/
def loc (r : Fin 16384) : Fin 512 := ⟨r.val % 512, by omega⟩

/-- The point that writes row `r`'s block back. -/
theorem pt5 (r : Fin 16384) (g : Fin 64) : pt5Of (ix2 r g) = (pt r).val := by
  show 1 * (r.val / 512 - 0) + 1 * (g.val / 64 - 0) = r.val / 512
  omega

/-- A row's place in its block. -/
theorem loc5 (r : Fin 16384) (g : Fin 64) : loc5Of (ix2 r g) = ix2 (loc r) g := by
  funext a; apply Fin.ext
  match a with
  | ⟨0, _⟩ => rfl
  | ⟨1, _⟩ => show g.val % 64 = g.val; omega

/-- The kernel's weights at an entry. -/
theorem weights_apply (r : Fin 16384) (g : Fin 64) : G5 m c (ix2 r g) = wt m c (pt r) (loc r) g := by
  unfold G5
  rw [dif_pos (lt_of_eq_of_lt (pt5 r g) (pt r).isLt), fold0_congr m c _ _ (pt r).val (by have := (pt r).isLt; omega) (pt5 r g), loc5]
  obtain ⟨acc, e⟩ := st_eq m c (pt r)
  have h := step_weights m c (pt r) acc (loc r) g
  rw [← e] at h
  exact h

/-- The kernel's logits at an entry. -/
theorem logits_apply (r : Fin 16384) (g : Fin 64) : G6 m c (ix2 r g) = lg m c (pt r) (ix2 (loc r) g) := by
  unfold G6
  rw [dif_pos (lt_of_eq_of_lt (pt5 r g) (pt r).isLt), fold0_congr m c _ _ (pt r).val (by have := (pt r).isLt; omega) (pt5 r g)]
  obtain ⟨acc, e⟩ := st_eq m c (pt r)
  have h := congrFun (step_logits m c (pt r) acc) (ix2 (loc r) g)
  rw [← e] at h
  exact (congrArg _ (loc5 r g)).trans h

/-- The fold over the whole grid is the state after the last point. -/
theorem fold_last (h : 0 + 31 < cfg0.N) :
    Pipeline.accAt (fun n h => stAt0 m c n h junk0) (stAt0 m c) 0 31 h = st m c last.val last.isLt :=
  fold0_congr m c 31 h last.val (by have := last.isLt; omega) rfl

/-- The kernel's entropy loss. -/
theorem ent_apply (i : S1x1.Idx) :
    G7 m c i = Ideal.div (∑ p : Fin cfg0.N, dEnt m c p) (Ideal.ofBits .f32 0x46800000#32) := by
  rw [G7_last, fold_last]
  obtain ⟨acc, e⟩ := st_eq m c last
  have h := last_ent m c last acc rfl i
  rw [← e, ent_total, zero_add] at h
  exact h

/-- The kernel's loss of the coefficients of variation. -/
theorem cv_apply (i : S1x1.Idx) :
    G8 m c i = Ideal.div (∑ g, Ideal.div
          (Ideal.sqrt (max (Ideal.div (∑ p : Fin cfg0.N, dSq m c p g) (Ideal.ofBits .f32 0x46800000#32)
            - Ideal.div (∑ p : Fin cfg0.N, dSw m c p g) (Ideal.ofBits .f32 0x46800000#32)
              * Ideal.div (∑ p : Fin cfg0.N, dSw m c p g) (Ideal.ofBits .f32 0x46800000#32)) 0))
          (Ideal.div (∑ p : Fin cfg0.N, dSw m c p g) (Ideal.ofBits .f32 0x46800000#32) + Ideal.ofBits .f32 0x3089705F#32))
        (Ideal.ofBits .f32 0x42800000#32) := by
  rw [G8_last, fold_last]
  obtain ⟨acc, e⟩ := st_eq m c last
  have h := congrFun (last_cv m c last acc rfl) i
  rw [← e, Cert.Block.pay9_apply] at h
  simp only [sw_total, sq_total, zero_add] at h
  exact h

/-- The states' window moves one block of rows per point. -/
theorem idx0 : ∀ t : Fin cfg0.N, win0_0.index t = ![t.val, 0] := (by decide +kernel : ∀ t : Fin grid0.N, _)
/-- The first weight matrix's window stays. -/
theorem idx1 : ∀ t : Fin cfg0.N, win0_1.index t = ![0, 0] := (by decide +kernel : ∀ t : Fin grid0.N, _)
/-- The first bias's window stays. -/
theorem idx2 : ∀ t : Fin cfg0.N, win0_2.index t = ![0, 0] := (by decide +kernel : ∀ t : Fin grid0.N, _)
/-- The second weight matrix's window stays. -/
theorem idx3 : ∀ t : Fin cfg0.N, win0_3.index t = ![0, 0] := (by decide +kernel : ∀ t : Fin grid0.N, _)
/-- The second bias's window stays. -/
theorem idx4 : ∀ t : Fin cfg0.N, win0_4.index t = ![0, 0] := (by decide +kernel : ∀ t : Fin grid0.N, _)

/-- The states' block at an entry. -/
theorem blk0 (r : Fin 16384) (h : Fin 4096) :
    iblk m c 0 (pt r) (ix2 (loc r) h) = m ((c : Thread nD τ).loc main_arg0) (ix3 ⟨r.val / 4096, by omega⟩ ⟨r.val % 4096, by omega⟩ h) := by
  have e : (pt r).val * 512 + (loc r).val = r.val := by
    show r.val / 512 * 512 + r.val % 512 = r.val
    omega
  blk_ext! [iblk, V, idx0 (pt r)]
  all_goals rw [e]

/-- The first weight matrix's block at an entry. -/
theorem blk1 (t : Fin cfg0.N) (h k : Fin 4096) : iblk m c 1 t (ix2 h k) = m ((c : Thread nD τ).loc main_arg1) (ix2 h k) := by
  blk_ext [iblk, V, idx1 t]

/-- The first bias's block at an entry. -/
theorem blk2 (t : Fin cfg0.N) (k : Fin 4096) : iblk m c 2 t (ix2 0 k) = m ((c : Thread nD τ).loc main_arg2) (ix1 k) := by
  blk_ext! [iblk, V, idx2 t]

/-- The second weight matrix's block at an entry. -/
theorem blk3 (t : Fin cfg0.N) (k : Fin 4096) (g : Fin 64) : iblk m c 3 t (ix2 k g) = m ((c : Thread nD τ).loc main_arg3) (ix2 k g) := by
  blk_ext [iblk, V, idx3 t]

/-- The second bias's block at an entry. -/
theorem blk4 (t : Fin cfg0.N) (g : Fin 64) : iblk m c 4 t (ix2 0 g) = m ((c : Thread nD τ).loc main_arg4) (ix1 g) := by
  blk_ext! [iblk, V, idx4 t]

end Cert.Fold

end
-- ==== Proof.Moments.lean ====
/- The mean of the squares less the squared mean is the mean squared difference from the mean, for weights that are values of
   the logistic function; and sums over blocks of rows as sums over the rows. -/
module

public import proofs.«01_k».proof.Proof.Spec
public import proofs.«01_k».proof.Proof.Consts

@[expose] public section

noncomputable section

namespace Cert.Moments

open Idealize.ShloMosaic

/-- A value of the logistic function is a real number, at the infinities too. -/
theorem logistic_real (x : EReal) : ∃ a : ℝ, Ideal.logistic x = (a : EReal) := by
  induction x with
  | bot => exact ⟨0, Ideal.logistic_bot⟩
  | top => exact ⟨1, Ideal.logistic_top⟩
  | coe r => exact ⟨_, Ideal.logistic_coe r⟩

/-- A sum of reals, taken in the extended reals. -/
theorem sum_coe {ι : Type*} [Fintype ι] (a : ι → ℝ) : ∑ i, (a i : EReal) = ((∑ i, a i : ℝ) : EReal) := by
  classical
  induction (Finset.univ : Finset ι) using Finset.induction_on with
  | empty => simp
  | insert i s h ih => rw [Finset.sum_insert h, Finset.sum_insert h, ih, EReal.coe_add]

/-- A quotient by the number of rows. -/
theorem div_rows (x : ℝ) : Ideal.div (x : EReal) (Ideal.ofBits .f32 0x46800000#32) = ((x / 16384 : ℝ) : EReal) := by
  rw [Cert.Consts.ofBits_rows, Ideal.div_coe (by norm_num), ← EReal.coe_mul, mul_one_div]

/-- The two variances over the reals. -/
theorem var_real (a : Fin 16384 → ℝ) :
    (∑ r, a r * a r) / 16384 - (∑ r, a r) / 16384 * ((∑ r, a r) / 16384)
      = (∑ r, (a r - (∑ r, a r) / 16384) * (a r - (∑ r, a r) / 16384)) / 16384 := by
  have h : ∀ μ : ℝ, ∑ r, (a r - μ) * (a r - μ) = (∑ r, a r * a r) - 2 * μ * (∑ r, a r) + 16384 * (μ * μ) := by
    intro μ
    have e : ∀ r, (a r - μ) * (a r - μ) = a r * a r - 2 * μ * a r + μ * μ := fun r => by ring
    simp only [e, Finset.sum_add_distrib, Finset.sum_sub_distrib, ← Finset.mul_sum, Finset.sum_const, Finset.card_univ,
      Fintype.card_fin, nsmul_eq_mul]
    push_cast
    ring
  rw [h]
  ring

/-- The kernel's variance of a gate's weights is the reference's. -/
theorem varSq_eq (l : Fin 16384 → Fin 64 → EReal) (g : Fin 64) :
    Cert.Spec.varSq (fun r g => Ideal.logistic (l r g)) g = Cert.Spec.varDiff (fun r g => Ideal.logistic (l r g)) g := by
  choose a ha using fun r => logistic_real (l r g)
  unfold Cert.Spec.varSq Cert.Spec.varDiff Cert.Spec.mean
  simp only [ha, sum_coe, div_rows, ← EReal.coe_mul, ← EReal.coe_sub]
  rw [var_real]
  refine max_eq_left ?_
  rw [← EReal.coe_zero, EReal.coe_le_coe_iff]
  exact div_nonneg (Finset.sum_nonneg fun r _ => mul_self_nonneg _) (by norm_num)

/-- A sum over 32 blocks of 512 rows is the sum over the rows. -/
theorem sum_blocks (N : ℕ) (e : N = 32) (f : Fin N → Fin 512 → EReal) :
    ∑ p, ∑ q, f p q = ∑ r : Fin 16384, f ⟨r.val / 512, by omega⟩ ⟨r.val % 512, by omega⟩ := by
  subst e
  rw [← Fintype.sum_prod_type' (f := f)]
  exact (Equiv.sum_comp (finProdFinEquiv (m := 32) (n := 512)).symm (fun p => f p.1 p.2)).symm

/-- A sum over 4 batches of 4096 rows is the sum over the rows. -/
theorem sum_batches (f : Fin 4 → Fin 4096 → EReal) :
    ∑ a, ∑ b, f a b = ∑ r : Fin 16384, f ⟨r.val / 4096, by omega⟩ ⟨r.val % 4096, by omega⟩ := by
  rw [← Fintype.sum_prod_type' (f := f)]
  exact (Equiv.sum_comp (finProdFinEquiv (m := 4) (n := 4096)).symm (fun p => f p.1 p.2)).symm

end Cert.Moments

end
-- ==== Proof.RefValue.lean ====
/- The reference's four results, read at an index: its composed terms, cut into the steps of the gate. -/
module

public import proofs.«01_k».proof.Proof.Gen.ReferenceIdeal.Run
public import proofs.«01_k».proof.Proof.Spec
public import proofs.«01_k».proof.Proof.Consts
public import Idealize.ShloMosaic.Lib.Pointwise
public import Idealize.ShloMosaic.Lib.Tactic

@[expose] public section

set_option maxRecDepth 16384

noncomputable section

namespace Cert.RefValue

open Cert.ReferenceIdeal Cert.ReferenceIdeal.Gen Cert.ReferenceIdeal.Value
open Idealize.ShloMosaic Idealize.ShloMosaic.TcCoe Idealize.SL.Sem

/-- The hidden layer before the gelu. -/
def hidR (x : FVec Ideal S4x4096x4096 .f32) (w1 : FVec Ideal S4096x4096 .f32) (b1 : FVec Ideal S4096 .f32) :
    FVec Ideal S4x4096x4096 .f32 :=
  addf (Host.dotGeneral dot_S4x4096x4096_S4096x4096_S4x4096x4096_2_0_01_1_n_n none x w1)
    (broadcastInDim S4x4096x4096 ![0, 1, 2] bcast_S1x1x4096_S4x4096x4096_0_1_2
      (broadcastInDim S1x1x4096 ![2] bcast_S4096_S1x1x4096_2 b1))

/-- The gelu of the hidden layer. -/
def geluR (h : FVec Ideal S4x4096x4096 .f32) : FVec Ideal S4x4096x4096 .f32 :=
  mulf h (mulf (broadcastInDim S4x4096x4096 ![] bcast_S_S4x4096x4096 (constant S_ .f32 0x3F000000#32))
    (addf (broadcastInDim S4x4096x4096 ![] bcast_S_S4x4096x4096 (constant S_ .f32 0x3F800000#32))
      (Host.tanh (mulf (broadcastInDim S4x4096x4096 ![] bcast_S_S4x4096x4096 (constant S_ .f32 0x3F4C422A#32))
        (addf h (mulf (broadcastInDim S4x4096x4096 ![] bcast_S_S4x4096x4096 (constant S_ .f32 0x3D372713#32))
          (mulf (mulf h h) h)))))))

/-- The logits, from the gelu's values. -/
def logitsR (a : FVec Ideal S4x4096x4096 .f32) (w2 : FVec Ideal S4096x64 .f32) (b2 : FVec Ideal S64 .f32) :
    FVec Ideal S4x4096x64 .f32 :=
  addf (Host.dotGeneral dot_S4x4096x4096_S4096x64_S4x4096x64_2_0_01_1_n_n none a w2)
    (broadcastInDim S4x4096x64 ![0, 1, 2] bcast_S1x1x64_S4x4096x64_0_1_2
      (broadcastInDim S1x1x64 ![2] bcast_S64_S1x1x64_2 b2))

/-- The weights, from the logits. -/
def weightsR (l : FVec Ideal S4x4096x64 .f32) : FVec Ideal S4x4096x64 .f32 :=
  Host.divf (broadcastInDim S4x4096x64 ![] bcast_S_S4x4096x64 (constant S_ .f32 0x3F800000#32))
    (addf (broadcastInDim S4x4096x64 ![] bcast_S_S4x4096x64 (constant S_ .f32 0x3F800000#32)) (Host.exp (Host.negf l)))

/-- The exponentials of the logits less their row's largest. -/
def expR (l : FVec Ideal S4x4096x64 .f32) : FVec Ideal S4x4096x64 .f32 :=
  Host.exp (subf l (broadcastInDim S4x4096x64 ![0, 1, 2] bcast_S4x4096x1_S4x4096x64_0_1_2
    (broadcastInDim S4x4096x1 ![0, 1] bcast_S4x4096_S4x4096x1_0_1
      (maximumf (broadcastInDim S4x4096 ![] bcast_S_S4x4096 (constant S_ .f32 0xFF800000#32))
        (Host.reduce FloatOps.maximumf l (constant S_ .f32 0xFF800000#32) reducesTo_S4x4096x64_S4x4096_d2 h_S_)))))

/-- The softmax, from the exponentials. -/
def probR (e : FVec Ideal S4x4096x64 .f32) : FVec Ideal S4x4096x64 .f32 :=
  Host.divf e (broadcastInDim S4x4096x64 ![0, 1, 2] bcast_S4x4096x1_S4x4096x64_0_1_2
    (broadcastInDim S4x4096x1 ![0, 1] bcast_S4x4096_S4x4096x1_0_1
      (Host.reduceAdd e (constant S_ .f32 0x00000000#32) reducesTo_S4x4096x64_S4x4096_d2 h_S_)))

/-- The rows' entropy differences, from the softmax. -/
def diffR (p : FVec Ideal S4x4096x64 .f32) : FVec Ideal S4x4096 .f32 :=
  subf (Host.negf (Host.reduceAdd (mulf p (Host.log (addf p (broadcastInDim S4x4096x64 ![] bcast_S_S4x4096x64
      (constant S_ .f32 0x3089705F#32))))) (constant S_ .f32 0x00000000#32) reducesTo_S4x4096x64_S4x4096_d2 h_S_))
    (broadcastInDim S4x4096 ![] bcast_S_S4x4096 (Host.log (constant S_ .f32 0x42800000#32)))

/-- The entropy loss, from the rows' entropy differences. -/
def entR (d : FVec Ideal S4x4096 .f32) : FVec Ideal S1x1 .f32 :=
  shapeCast S1x1 (Host.divf (Host.reduceAdd (mulf d d) (constant S_ .f32 0x00000000#32) reducesTo_S4x4096_S_d0_1 h_S_)
    (constant S_ .f32 0x46800000#32)) shapeCasts_S_S1x1

/-- The gates' mean weights. -/
def meanR (w : FVec Ideal S4x4096x64 .f32) : FVec Ideal S64 .f32 :=
  Host.divf (Host.reduceAdd w (constant S_ .f32 0x00000000#32) reducesTo_S4x4096x64_S64_d0_1 h_S_)
    (broadcastInDim S64 ![] bcast_S_S64 (constant S_ .f32 0x46800000#32))

/-- The weights less their gate's mean, as the variance takes it. -/
def devR (w : FVec Ideal S4x4096x64 .f32) : FVec Ideal S4x4096x64 .f32 :=
  subf w (broadcastInDim S4x4096x64 ![0, 1, 2] bcast_S1x1x64_S4x4096x64_0_1_2
    (Host.divf (broadcastInDim S1x1x64 ![2] bcast_S64_S1x1x64_2
      (Host.reduceAdd w (constant S_ .f32 0x00000000#32) reducesTo_S4x4096x64_S64_d0_1 h_S_))
      (broadcastInDim S1x1x64 ![] bcast_S_S1x1x64 (constant S_ .f32 0x46800000#32))))

/-- The gates' variances, from the differences: where the count is positive, which it is. -/
def varR (d : FVec Ideal S4x4096x64 .f32) : FVec Ideal S64 .f32 :=
  select (broadcastInDim S64 ![] bcast_S_S64 (cmpf .ogt (subf (constant S_ .f32 0x46800000#32)
      (sitofp .f32 (constantI S_ 32 0#32)) : FVec Ideal S_ .f32) (constant S_ .f32 0x00000000#32)))
    (Host.divf (Host.reduceAdd (mulf d d) (constant S_ .f32 0x00000000#32) reducesTo_S4x4096x64_S64_d0_1 h_S_)
      (broadcastInDim S64 ![] bcast_S_S64 (subf (constant S_ .f32 0x46800000#32) (sitofp .f32 (constantI S_ 32 0#32)))))
    (broadcastInDim S64 ![] bcast_S_S64 (id (constant S_ .f32 0x7FC00000#32)))

/-- The loss of the coefficients of variation, from the gates' means and variances. -/
def cvR (mu v : FVec Ideal S64 .f32) : FVec Ideal S1x1 .f32 :=
  shapeCast S1x1 (Host.divf (Host.reduceAdd (Host.divf (Host.sqrt v)
      (addf mu (broadcastInDim S64 ![] bcast_S_S64 (constant S_ .f32 0x3089705F#32))))
      (constant S_ .f32 0x00000000#32) reducesTo_S64_S_d0 h_S_) (constant S_ .f32 0x42800000#32)) shapeCasts_S_S1x1

variable (m : (ℓ : Loc nD τ sig) → Buf (Elt Ideal) ℓ) (c : Dev nD)

/-- The logits of the arguments. -/
def L : FVec Ideal S4x4096x64 .f32 :=
  logitsR (geluR (hidR (m ((c.tc : Thread nD τ).loc main_arg0)) (m ((c.tc : Thread nD τ).loc main_arg1))
    (m ((c.tc : Thread nD τ).loc main_arg2)))) (m ((c.tc : Thread nD τ).loc main_arg3)) (m ((c.tc : Thread nD τ).loc main_arg4))

/-- The reference runs, and its four results are the steps' composition. -/
theorem run_steps (ρ : Dev nD → PrngReg) :
    θ_run defs (onTc (τ := τ) (main (F := Ideal))) ⟨m, fun _ => 0, ρ⟩ fun r => ∀ c : Dev nD,
      r.2.mem ((c.tc : Thread nD τ).loc main_v59) = shapeCast S16384x64 (weightsR (L m c)) shapeCasts_S4x4096x64_S16384x64
      ∧ r.2.mem ((c.tc : Thread nD τ).loc main_v60) = shapeCast S16384x64 (L m c) shapeCasts_S4x4096x64_S16384x64
      ∧ r.2.mem ((c.tc : Thread nD τ).loc main_v61) = entR (diffR (probR (expR (L m c))))
      ∧ r.2.mem ((c.tc : Thread nD τ).loc main_v62) = cvR (meanR (weightsR (L m c))) (varR (devR (weightsR (L m c))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2.1.trans rfl, (h c).2.2.1.trans rfl,
    (h c).2.2.2.1.trans rfl, (h c).2.2.2.2⟩) (run m ρ)

/-- The host's sum over the first two axes: the initial value plus the sum over every row. -/
theorem sum_rows (h : S4x4096x64.ReducesTo [0, 1] S64) (v : S4x4096x64.Idx → EReal) (e : EReal) (g : Fin 64) :
    Ideal.hostReduceAdd h v e (ix1 g) = e + ∑ a : Fin 4, ∑ b : Fin 4096, v (ix3 a b g) := by
  unfold Ideal.hostReduceAdd
  congr 1
  rw [Finset.sum_filter_eq_sum_of_fiber _ (fun p : Fin 4 × Fin 4096 => (ix3 p.1 p.2 g : S4x4096x64.Idx))
    (fun p q e => Prod.ext (congrFun e 0) (congrFun e 1)) _ v, Fintype.sum_prod_type]
  intro i
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨p, rfl⟩
    funext b
    apply Fin.ext
    match b with
    | ⟨0, _⟩ => rfl

/-- The hidden layer at an entry. -/
theorem hidR_apply (x : FVec Ideal S4x4096x4096 .f32) (w1 : FVec Ideal S4096x4096 .f32) (b1 : FVec Ideal S4096 .f32)
    (a : Fin 4) (b : Fin 4096) (k : Fin 4096) :
    hidR x w1 b1 (ix3 a b k) = Cert.Spec.hid (fun h => x (ix3 a b h)) (fun h k => w1 (ix2 h k)) (fun k => b1 (ix1 k)) k := by
  pointwise [hidR, Cert.Spec.hid]

/-- The gelu at an entry. -/
theorem geluR_apply (h : FVec Ideal S4x4096x4096 .f32) (a : Fin 4) (b : Fin 4096) (k : Fin 4096) :
    geluR h (ix3 a b k) = Cert.Spec.gelu (h (ix3 a b k)) := by
  pointwise [geluR, Cert.Spec.gelu]

/-- The logits at an entry. -/
theorem logitsR_apply (x : FVec Ideal S4x4096x4096 .f32) (w2 : FVec Ideal S4096x64 .f32) (b2 : FVec Ideal S64 .f32)
    (a : Fin 4) (b : Fin 4096) (g : Fin 64) :
    logitsR x w2 b2 (ix3 a b g) = (∑ k : Fin 4096, x (ix3 a b k) * w2 (ix2 k g)) + b2 (ix1 g) := by
  pointwise [logitsR]

/-- The weights at an entry. -/
theorem weightsR_apply (l : FVec Ideal S4x4096x64 .f32) (a : Fin 4) (b : Fin 4096) (g : Fin 64) :
    weightsR l (ix3 a b g) = Ideal.logistic (l (ix3 a b g)) := by
  pointwise [weightsR, Ideal.logistic]

/-- The softmax at an entry. -/
theorem probR_apply (l : FVec Ideal S4x4096x64 .f32) (a : Fin 4) (b : Fin 4096) (g : Fin 64) :
    probR (expR l) (ix3 a b g) = Cert.Spec.prob (fun g => l (ix3 a b g)) g := by
  pointwise [probR, expR, Cert.Spec.prob, Cert.Spec.rowMax]
  simp only [Cert.Consts.ofBits_bot, max_eq_right, bot_le]

/-- A row's entropy difference. -/
theorem diffR_apply (p : FVec Ideal S4x4096x64 .f32) (a : Fin 4) (b : Fin 4096) :
    diffR p (ix2 a b) = -(∑ g : Fin 64, p (ix3 a b g) * Ideal.log (p (ix3 a b g) + Ideal.ofBits .f32 0x3089705F#32))
      - Ideal.log (Ideal.ofBits .f32 0x42800000#32) := by
  pointwise [diffR]

/-- The entropy loss. -/
theorem entR_apply (d : FVec Ideal S4x4096 .f32) (i : S1x1.Idx) :
    entR d i = Ideal.div (∑ a : Fin 4, ∑ b : Fin 4096, d (ix2 a b) * d (ix2 a b)) (Ideal.ofBits .f32 0x46800000#32) := by
  pointwise [entR]

/-- A gate's mean weight. -/
theorem meanR_apply (w : FVec Ideal S4x4096x64 .f32) (g : Fin 64) :
    meanR w (ix1 g) = Ideal.div (∑ a : Fin 4, ∑ b : Fin 4096, w (ix3 a b g)) (Ideal.ofBits .f32 0x46800000#32) := by
  pointwise [meanR]
  rw [sum_rows, zero_add]

/-- A weight less its gate's mean. -/
theorem devR_apply (w : FVec Ideal S4x4096x64 .f32) (a : Fin 4) (b : Fin 4096) (g : Fin 64) :
    devR w (ix3 a b g) = w (ix3 a b g) - Ideal.div (∑ a : Fin 4, ∑ b : Fin 4096, w (ix3 a b g)) (Ideal.ofBits .f32 0x46800000#32) := by
  pointwise [devR]
  rw [sum_rows, zero_add]

/-- A gate's variance: the count is positive, so the mean of the squares is what is selected. -/
theorem varR_apply (d : FVec Ideal S4x4096x64 .f32) (g : Fin 64) :
    varR d (ix1 g) = Ideal.div (∑ a : Fin 4, ∑ b : Fin 4096, d (ix3 a b g) * d (ix3 a b g)) (Ideal.ofBits .f32 0x46800000#32) := by
  pointwise [varR]
  have hz : (FloatOps.sitofp (F := Ideal) .f32 0#32 : EReal) = 0 := by
    show (((0#32).toInt : ℝ) : EReal) = 0
    simp
  rw [hz, sub_zero, if_pos (by rw [Cert.Consts.ofBits_rows]; exact_mod_cast (by norm_num : (0 : ℝ) < 16384)), sum_rows, zero_add]
  pointwise

/-- The loss of the coefficients of variation. -/
theorem cvR_apply (mu v : FVec Ideal S64 .f32) (i : S1x1.Idx) :
    cvR mu v i = Ideal.div (∑ g : Fin 64, Ideal.div (Ideal.sqrt (v (ix1 g))) (mu (ix1 g) + Ideal.ofBits .f32 0x3089705F#32))
      (Ideal.ofBits .f32 0x42800000#32) := by
  pointwise [cvR]

end Cert.RefValue

end
-- ==== Proof.Tie.lean ====
/- The two programs' results, at an entry, in the specification's terms: equal where their arguments are. -/
module

public import proofs.«01_k».proof.Proof.Fold
public import proofs.«01_k».proof.Proof.Moments
public import proofs.«01_k».proof.Proof.RefValue

@[expose] public section

set_option maxRecDepth 16384

noncomputable section

namespace Cert.Tie

open Idealize.ShloMosaic Idealize.ShloMosaic.TcCoe Idealize.SL.Sem

/-- The logits of all rows, from the five arguments. -/
def logits (x : FVec Ideal Cert.ReferenceIdeal.S4x4096x4096 .f32) (w1 : FVec Ideal Cert.ReferenceIdeal.S4096x4096 .f32)
    (b1 : FVec Ideal Cert.ReferenceIdeal.S4096 .f32) (w2 : FVec Ideal Cert.ReferenceIdeal.S4096x64 .f32)
    (b2 : FVec Ideal Cert.ReferenceIdeal.S64 .f32) (r : Fin 16384) (g : Fin 64) : EReal :=
  Cert.Spec.logit (fun h => x (ix3 ⟨r.val / 4096, by omega⟩ ⟨r.val % 4096, by omega⟩ h)) (fun h k => w1 (ix2 h k))
    (fun k => b1 (ix1 k)) (fun k g => w2 (ix2 k g)) (fun g => b2 (ix1 g)) g

section kernel

open Cert.KernelIdeal Cert.KernelIdeal.Gen Cert.KernelIdeal.Value Cert.Steps Cert.Fold

variable (m : (ℓ : Loc nD τ sig) → Buf (Elt Ideal) ℓ) (c : Dev nD)

/-- The logits of the kernel's arguments. -/
def lk (r : Fin 16384) (g : Fin 64) : EReal :=
  logits (m ((c : Thread nD τ).loc main_arg0)) (m ((c : Thread nD τ).loc main_arg1)) (m ((c : Thread nD τ).loc main_arg2))
    (m ((c : Thread nD τ).loc main_arg3)) (m ((c : Thread nD τ).loc main_arg4)) r g

/-- The logits of a block are those of its rows. -/
theorem lg_eq (r : Fin 16384) (g : Fin 64) : lg m c (pt r) (ix2 (Cert.Fold.loc r) g) = lk m c r g := by
  unfold lg lk logits
  rw [Cert.Block.logits_apply]
  simp only [blk0, blk1, blk2, blk3, blk4]

/-- The weights of a block are the logistic function of its rows' logits. -/
theorem wt_eq (r : Fin 16384) (g : Fin 64) : wt m c (pt r) (Cert.Fold.loc r) g = Ideal.logistic (lk m c r g) := by
  unfold wt
  rw [lg_eq]

/-- The kernel's weights. -/
theorem k_weights (r : Fin 16384) (g : Fin 64) : G5 m c (ix2 r g) = Ideal.logistic (lk m c r g) :=
  (weights_apply m c r g).trans (wt_eq m c r g)

/-- The kernel's logits. -/
theorem k_logits (r : Fin 16384) (g : Fin 64) : G6 m c (ix2 r g) = lk m c r g :=
  (logits_apply m c r g).trans (lg_eq m c r g)

/-- The kernel's entropy loss. -/
theorem k_ent (i : S1x1.Idx) : G7 m c i = Cert.Spec.entLoss (lk m c) := by
  rw [ent_apply]
  refine congrArg (fun s => Ideal.div s (Ideal.ofBits .f32 0x46800000#32)) ?_
  unfold dEnt
  rw [Cert.Moments.sum_blocks cfg0.N N_0]
  have key : ∀ r : Fin 16384, Cert.Spec.entSq (fun g => lg m c (pt r) (ix2 (Cert.Fold.loc r) g)) = Cert.Spec.entSq (lk m c r) :=
    fun r => congrArg Cert.Spec.entSq (funext fun g => lg_eq m c r g)
  exact Finset.sum_congr rfl fun r _ => key r

/-- The points' parts of a gate's sum of weights add up to the sum over the rows. -/
theorem sw_eq (g : Fin 64) : ∑ p : Fin cfg0.N, dSw m c p g = ∑ r, Ideal.logistic (lk m c r g) := by
  unfold dSw
  rw [Cert.Moments.sum_blocks cfg0.N N_0]
  exact Finset.sum_congr rfl fun r _ => wt_eq m c r g

/-- The points' parts of a gate's sum of squared weights add up to the sum over the rows. -/
theorem sq_eq (g : Fin 64) : ∑ p : Fin cfg0.N, dSq m c p g = ∑ r, Ideal.logistic (lk m c r g) * Ideal.logistic (lk m c r g) := by
  unfold dSq
  rw [Cert.Moments.sum_blocks cfg0.N N_0]
  exact Finset.sum_congr rfl fun r _ => congrArg₂ (· * ·) (wt_eq m c r g) (wt_eq m c r g)

/-- The kernel's loss of the coefficients of variation, its variance put in the reference's form. -/
theorem k_cv (i : S1x1.Idx) :
    G8 m c i = Cert.Spec.cvLoss (fun r g => Ideal.logistic (lk m c r g)) (Cert.Spec.varDiff fun r g => Ideal.logistic (lk m c r g)) := by
  rw [cv_apply]
  unfold Cert.Spec.cvLoss
  simp only [sw_eq, sq_eq, ← Cert.Moments.varSq_eq]
  rfl

end kernel

section reference

open Cert.ReferenceIdeal Cert.ReferenceIdeal.Gen Cert.RefValue

variable (m : (ℓ : Loc nD τ sig) → Buf (Elt Ideal) ℓ) (c : Dev nD)

/-- The logits of the reference's arguments. -/
def lr (r : Fin 16384) (g : Fin 64) : EReal :=
  logits (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) r g

/-- The reference's logits at a row. -/
theorem L_eq (r : Fin 16384) (g : Fin 64) :
    L m c (ix3 ⟨r.val / 4096, by omega⟩ ⟨r.val % 4096, by omega⟩ g) = lr m c r g := by
  unfold L lr logits Cert.Spec.logit
  rw [logitsR_apply]
  simp only [geluR_apply, hidR_apply]

/-- The reference's logits. -/
theorem r_logits (r : Fin 16384) (g : Fin 64) :
    shapeCast S16384x64 (L m c) shapeCasts_S4x4096x64_S16384x64 (ix2 r g) = lr m c r g := by
  rw [← L_eq]
  pointwise

/-- The reference's weights. -/
theorem r_weights (r : Fin 16384) (g : Fin 64) :
    shapeCast S16384x64 (weightsR (L m c)) shapeCasts_S4x4096x64_S16384x64 (ix2 r g) = Ideal.logistic (lr m c r g) := by
  rw [← L_eq, ← weightsR_apply]
  pointwise

/-- The reference's entropy loss. -/
theorem r_ent (i : S1x1.Idx) : entR (diffR (probR (expR (L m c)))) i = Cert.Spec.entLoss (lr m c) := by
  rw [entR_apply, Cert.Moments.sum_batches]
  unfold Cert.Spec.entLoss Cert.Spec.entSq Cert.Spec.entDiff
  simp only [diffR_apply, probR_apply, L_eq]

/-- The reference's loss of the coefficients of variation. -/
theorem r_cv (i : S1x1.Idx) :
    cvR (meanR (weightsR (L m c))) (varR (devR (weightsR (L m c)))) i
      = Cert.Spec.cvLoss (fun r g => Ideal.logistic (lr m c r g)) (Cert.Spec.varDiff fun r g => Ideal.logistic (lr m c r g)) := by
  rw [cvR_apply]
  unfold Cert.Spec.cvLoss Cert.Spec.varDiff Cert.Spec.mean
  simp only [varR_apply, meanR_apply, devR_apply, Cert.Moments.sum_batches, weightsR_apply, L_eq]

end reference

section tie

open Cert.RefValue

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD) (c' : Dev Cert.ReferenceIdeal.nD) (h : lr m' c' = lk m c)

include h

/-- Equal logits give equal entropy losses. -/
theorem tie_ent (i : Cert.KernelIdeal.S1x1.Idx) : entR (diffR (probR (expR (L m' c')))) i = Cert.KernelIdeal.Value.G7 m c i := by
  have a := r_ent m' c' i
  have b := k_ent m c i
  rw [h] at a
  exact a.trans b.symm

/-- Equal logits give equal losses of the coefficients of variation. -/
theorem tie_cv (i : Cert.KernelIdeal.S1x1.Idx) :
    cvR (meanR (weightsR (L m' c'))) (varR (devR (weightsR (L m' c')))) i = Cert.KernelIdeal.Value.G8 m c i := by
  have a := r_cv m' c' i
  have b := k_cv m c i
  rw [h] at a
  exact a.trans b.symm

end tie

end Cert.Tie

end
-- ==== Proof.Claims.lean ====
/- The five claims: the three programs run and leave their arguments alone, the two named constants are what the idealized
   kernel reads in place of the printed ones, and the four results are equal. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Tie

@[expose] public section

set_option maxRecDepth 16384

noncomputable section

namespace Cert.Claims

open Idealize.ShloMosaic Idealize.ShloMosaic.TcCoe Idealize.SL.Sem

/-- The kernel as printed runs, leaves its arguments alone and every semaphore at zero. -/
theorem frame_p : Cert.quiescent_Kernel := fun m ρ _ => Cert.Kernel.Gen.frame m ρ

/-- So does the idealized kernel. -/
theorem frame_pi : Cert.quiescent_KernelIdeal := fun m ρ _ => Cert.KernelIdeal.Gen.frame m ρ

/-- So does the idealized reference, which has no semaphore. -/
theorem frame_ri : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.RefValue.run_steps m ρ)

/-- The gelu's two constants are the named rationals at the ideal instance. -/
theorem preserves : Cert.preserves_Kernel_KernelIdeal :=
  ⟨IdealRules.named_const.statement Cert.KernelIdeal.κ "gelu_cubic" .bf16 0x3D37#16 _ rfl,
    IdealRules.named_const.statement Cert.KernelIdeal.κ "gelu_scale" .bf16 0x3F4C#16 _ rfl⟩

/-- From equal arguments the kernel and the reference end with equal weights, logits, entropy loss and coefficient loss. -/
theorem algebraic : Cert.algebraic_KernelIdeal_ReferenceIdeal := by
  intro m ρ m' ρ' _ hagree
  have hl : ∀ c : Dev Cert.KernelIdeal.nD, Cert.Tie.lr m' c = Cert.Tie.lk m c := by
    intro c
    obtain ⟨e0, e1, e2, e3, e4⟩ := hagree c
    funext r g
    unfold Cert.Tie.lr Cert.Tie.lk
    rw [e0, e1, e2, e3, e4]
  refine ⟨fun c => Cert.KernelIdeal.Value.G5 m c, fun c => Cert.KernelIdeal.Value.G6 m c,
    fun c => Cert.KernelIdeal.Value.G7 m c, fun c => Cert.KernelIdeal.Value.G8 m c,
    Cert.KernelIdeal.Value.run (F := Ideal) m ρ, ?_⟩
  refine (θ_run Cert.ReferenceIdeal.defs _ _).mono (fun r h c => ?_) (Cert.RefValue.run_steps m' ρ')
  obtain ⟨h0, h1, h2, h3, ha⟩ := h c
  refine ⟨h0.trans ?_, h1.trans ?_, h2.trans ?_, h3.trans ?_, ha⟩
  · funext i
    rw [eq_ix2 i]
    exact (Cert.Tie.r_weights m' c (i 0) (i 1)).trans ((congrArg (fun l => Ideal.logistic (l (i 0) (i 1))) (hl c)).trans
      (Cert.Tie.k_weights m c (i 0) (i 1)).symm)
  · funext i
    rw [eq_ix2 i]
    exact (Cert.Tie.r_logits m' c (i 0) (i 1)).trans ((congrArg (fun l => l (i 0) (i 1)) (hl c)).trans
      (Cert.Tie.k_logits m c (i 0) (i 1)).symm)
  · exact funext fun i => Cert.Tie.tie_ent m m' c c (hl c) i
  · exact funext fun i => Cert.Tie.tie_cv m m' c c (hl c) i

end Cert.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Claims.frame_p, Cert.Claims.frame_pi, Cert.Claims.frame_ri, Cert.Claims.preserves, Cert.Claims.algebraic⟩

end Cert.Proof

end
